-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S10000x64 : Shape := ⟨2, ![10000, 64]⟩
abbrev S2x1x192x64 : Shape := ⟨4, ![2, 1, 192, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S2x1x192x64 : S_.BroadcastsInDim S2x1x192x64 (![] : Fin 0 → Fin S2x1x192x64.rank)
  reducesTo_S2x1x192x64_S_d0_1_2_3 : S2x1x192x64.ReducesTo [0, 1, 2, 3] S_

variable [Facts]

def fn_part1 {F : FTy → Type} [FloatOps F] (main_arg8 : FVec F S2x1x192x64 .f32) (main_v13 : IVec S_ 1) (main_v16 : IVec S2x1x192x64 1) : IVec S_ 1 :=
  let main_c_5 : IVec S_ 1 := constantI S_ 1 1#1
  let main_v17 : IVec S_ 1 := (fun x v => Host.reduce IntOp.andi x v reducesTo_S2x1x192x64_S_d0_1_2_3 h_S_) main_v16 main_c_5
  let main_v18 : IVec S_ 1 := andi main_v13 main_v17
  let main_v19 : FVec F S2x1x192x64 .f32 := Host.absf main_arg8
  let main_cst_6 : FVec F S_ .f32 := constant S_ .f32 0x7F800000#32
  let main_v20 : FVec F S2x1x192x64 .f32 := broadcastInDim S2x1x192x64 ![] bcast_S_S2x1x192x64 main_cst_6
  let main_v21 : IVec S2x1x192x64 1 := cmpf .olt main_v19 main_v20
  let main_c_7 : IVec S_ 1 := constantI S_ 1 1#1
  let main_v22 : IVec S_ 1 := (fun x v => Host.reduce IntOp.andi x v reducesTo_S2x1x192x64_S_d0_1_2_3 h_S_) main_v21 main_c_7
  let main_v23 : IVec S_ 1 := andi main_v18 main_v22
  main_v23

def fn {F : FTy → Type} [FloatOps F] (main_arg0 : FVec F S10000x128 .f32) (main_arg1 : IVec S2x320000 32) (main_arg2 : FVec F S320000 .f32) (main_arg3 : FVec F S10000x64 .f32) (main_arg4 : FVec F S2x1x192x64 .f32) (main_arg5 : FVec F S64 .f32) (main_arg6 : FVec F S2x1x192x64 .f32) (main_arg7 : FVec F S64 .f32) (main_arg8 : FVec F S2x1x192x64 .f32) (main_arg9 : FVec F S64 .f32) (main_arg10 : FVec F S1x64 .f32) (main_arg11 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S2x1x192x64 .f32 := Host.absf main_arg4
  let main_cst_2 : FVec F S_ .f32 := constant S_ .f32 0x7F800000#32
  let main_v10 : FVec F S2x1x192x64 .f32 := broadcastInDim S2x1x192x64 ![] bcast_S_S2x1x192x64 main_cst_2
  let main_v11 : IVec S2x1x192x64 1 := cmpf .olt main_v9 main_v10
  let main_c_3 : IVec S_ 1 := constantI S_ 1 1#1
  let main_v12 : IVec S_ 1 := (fun x v => Host.reduce IntOp.andi x v reducesTo_S2x1x192x64_S_d0_1_2_3 h_S_) main_v11 main_c_3
  let main_v13 : IVec S_ 1 := andi main_v8 main_v12
  let main_v14 : FVec F S2x1x192x64 .f32 := Host.absf main_arg6
  let main_cst_4 : FVec F S_ .f32 := constant S_ .f32 0x7F800000#32
  let main_v15 : FVec F S2x1x192x64 .f32 := broadcastInDim S2x1x192x64 ![] bcast_S_S2x1x192x64 main_cst_4
  let main_v16 : IVec S2x1x192x64 1 := cmpf .olt main_v14 main_v15
  fn_part1 (F := F) main_arg8 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S10000x64 : Shape := ⟨2, ![10000, 64]⟩
abbrev S2x1x192x64 : Shape := ⟨4, ![2, 1, 192, 64]⟩
abbrev S64 : Shape := ⟨1, ![64]⟩
abbrev S1x64 : Shape := ⟨2, ![1, 64]⟩
abbrev S1 : Shape := ⟨1, ![1]⟩
abbrev S64x10000 : Shape := ⟨2, ![64, 10000]⟩
abbrev S2x1x64x192 : Shape := ⟨4, ![2, 1, 64, 192]⟩
abbrev S1x10000 : Shape := ⟨2, ![1, 10000]⟩
abbrev S5120x128 : Shape := ⟨2, ![5120, 128]⟩
abbrev S64x5120 : Shape := ⟨2, ![64, 5120]⟩
abbrev S1x5120 : Shape := ⟨2, ![1, 5120]⟩
abbrev S1x1x64x192 : Shape := ⟨4, ![1, 1, 64, 192]⟩
abbrev S64x192 : Shape := ⟨2, ![64, 192]⟩
abbrev S64x1 : Shape := ⟨2, ![64, 1]⟩
abbrev S64x128 : Shape := ⟨2, ![64, 128]⟩
abbrev S64x64 : Shape := ⟨2, ![64, 64]⟩
abbrev S1x1 : Shape := ⟨2, ![1, 1]⟩
abbrev S10000x1 : Shape := ⟨2, ![10000, 1]⟩

abbrev nBuf : Space → Nat
  | .hbm => 20
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x64, .f32⟩
  | .hbm, ⟨4, _⟩ => ⟨S2x1x192x64, .f32⟩
  | .hbm, ⟨5, _⟩ => ⟨S64, .f32⟩
  | .hbm, ⟨6, _⟩ => ⟨S2x1x192x64, .f32⟩
  | .hbm, ⟨7, _⟩ => ⟨S64, .f32⟩
  | .hbm, ⟨8, _⟩ => ⟨S2x1x192x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S64x10000, .f32⟩
  | .hbm, ⟨13, _⟩ => ⟨S2x1x64x192, .f32⟩
  | .hbm, ⟨14, _⟩ => ⟨S2x1x64x192, .f32⟩
  | .hbm, ⟨15, _⟩ => ⟨S2x1x64x192, .f32⟩
  | .hbm, ⟨16, _⟩ => ⟨S1x10000, .f32⟩
  | .hbm, ⟨17, _⟩ => ⟨S64x10000, .f32⟩
  | .hbm, ⟨18, _⟩ => ⟨S10000x1, .f32⟩
  | .hbm, ⟨19, _⟩ => ⟨S10000x64, .f32⟩
  | .local _ .vmem, ⟨0, _⟩ => ⟨S5120x128, .f32⟩
  | .local _ .vmem, ⟨1, _⟩ => ⟨S5120x128, .f32⟩
  | .local _ .vmem, ⟨2, _⟩ => ⟨S64x5120, .f32⟩
  | .local _ .vmem, ⟨3, _⟩ => ⟨S64x5120, .f32⟩
  | .local _ .vmem, ⟨4, _⟩ => ⟨S2x1x64x192, .f32⟩
  | .local _ .vmem, ⟨5, _⟩ => ⟨S64, .f32⟩
  | .local _ .vmem, ⟨6, _⟩ => ⟨S2x1x64x192, .f32⟩
  | .local _ .vmem, ⟨7, _⟩ => ⟨S64, .f32⟩
  | .local _ .vmem, ⟨8, _⟩ => ⟨S2x1x64x192, .f32⟩
  | .local _ .vmem, ⟨9, _⟩ => ⟨S64, .f32⟩
  | .local _ .vmem, ⟨10, _⟩ => ⟨S1x64, .f32⟩
  | .local _ .vmem, ⟨11, _⟩ => ⟨S1, .f32⟩
  | .local _ .vmem, ⟨12, _⟩ => ⟨S1x5120, .f32⟩
  | .local _ .vmem, ⟨13, _⟩ => ⟨S1x5120, .f32⟩
  | .local _ .vmem, ⟨14, _⟩ => ⟨S64x5120, .f32⟩
  | .local _ .vmem, ⟨15, _⟩ => ⟨S64x5120, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x64x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S10000x64 : Shape := ⟨2, ![10000, 64]⟩
abbrev S2x1x192x64 : Shape := ⟨4, ![2, 1, 192, 64]⟩
abbrev S64 : Shape := ⟨1, ![64]⟩
abbrev S1x64 : Shape := ⟨2, ![1, 64]⟩
abbrev S1 : Shape := ⟨1, ![1]⟩
abbrev S10000x192 : Shape := ⟨2, ![10000, 192]⟩
abbrev S1x1x192x64 : Shape := ⟨4, ![1, 1, 192, 64]⟩
abbrev S192x64 : Shape := ⟨2, ![192, 64]⟩
abbrev S_ : Shape := ⟨0, ![]⟩
abbrev S64x1 : Shape := ⟨2, ![64, 1]⟩
abbrev S10000x1 : Shape := ⟨2, ![10000, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x64, .f32⟩
  | .hbm, ⟨4, _⟩ => ⟨S2x1x192x64, .f32⟩
  | .hbm, ⟨5, _⟩ => ⟨S64, .f32⟩
  | .hbm, ⟨6, _⟩ => ⟨S2x1x192x64, .f32⟩
  | .hbm, ⟨7, _⟩ => ⟨S64, .f32⟩
  | .hbm, ⟨8, _⟩ => ⟨S2x1x192x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S10000x192, .f32⟩
  | .hbm, ⟨13, _⟩ => ⟨S1x1x192x64, .f32⟩
  | .hbm, ⟨14, _⟩ => ⟨S192x64, .f32⟩
  | .hbm, ⟨15, _⟩ => ⟨S10000x64, .f32⟩
  | .hbm, ⟨16, _⟩ => ⟨S1x1x192x64, .f32⟩
  | .hbm, ⟨17, _⟩ => ⟨S192x64, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S_, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000x64, .f32⟩
  | .hbm, ⟨30, _⟩ => ⟨S10000x64, .f32⟩
  | .hbm, ⟨31, _⟩ => ⟨S1x1x192x64, .f32⟩
  | .hbm, ⟨32, _⟩ => ⟨S192x64, .f32⟩
  | .hbm, ⟨33, _⟩ => ⟨S10000x64, .f32⟩
  | .hbm, ⟨34, _⟩ => ⟨S1x1x192x64, .f32⟩
  | .hbm, ⟨35, _⟩ => ⟨S192x64, .f32⟩
  | .hbm, ⟨36, _⟩ => ⟨S10000x64, .f32⟩
  | .hbm, ⟨37, _⟩ => ⟨S10000x64, .f32⟩
  | .hbm, ⟨38, _⟩ => ⟨S1x64, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S_, .f32⟩
  | .hbm, ⟨44, _⟩ => ⟨S10000x64, .f32⟩
  | .hbm, ⟨45, _⟩ => ⟨S10000x64, .f32⟩
  | .hbm, ⟨46, _⟩ => ⟨S_, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S10000x192, .f32⟩
  | .hbm, ⟨51, _⟩ => ⟨S1x1x192x64, .f32⟩
  | .hbm, ⟨52, _⟩ => ⟨S192x64, .f32⟩
  | .hbm, ⟨53, _⟩ => ⟨S10000x64, .f32⟩
  | .hbm, ⟨54, _⟩ => ⟨S1x1x192x64, .f32⟩
  | .hbm, ⟨55, _⟩ => ⟨S192x64, .f32⟩
  | .hbm, ⟨56, _⟩ => ⟨S10000x64, .f32⟩
  | .hbm, ⟨57, _⟩ => ⟨S10000x64, .f32⟩
  | .hbm, ⟨58, _⟩ => ⟨S1x64, .f32⟩
  | .hbm, ⟨59, _⟩ => ⟨S10000x64, .f32⟩
  | .hbm, ⟨60, _⟩ => ⟨S10000x64, .f32⟩
  | .hbm, ⟨61, _⟩ => ⟨S10000x64, .f32⟩
  | .hbm, ⟨62, _⟩ => ⟨S10000x64, .f32⟩
  | .hbm, ⟨63, _⟩ => ⟨S_, .f32⟩
  | .hbm, ⟨64, _⟩ => ⟨S10000x64, .f32⟩
  | .hbm, ⟨65, _⟩ => ⟨S10000x64, .f32⟩
  | .hbm, ⟨66, _⟩ => ⟨S10000x64, .f32⟩
  | .hbm, ⟨67, _⟩ => ⟨S10000x64, .f32⟩
  | .hbm, ⟨68, _⟩ => ⟨S_, .f32⟩
  | .hbm, ⟨69, _⟩ => ⟨S10000x64, .f32⟩
  | .hbm, ⟨70, _⟩ => ⟨S10000x64, .f32⟩
  | .hbm, ⟨71, _⟩ => ⟨S64x1, .f32⟩
  | .hbm, ⟨72, _⟩ => ⟨S10000x1, .f32⟩
  | .hbm, ⟨73, _⟩ => ⟨S1x1, .f32⟩
  | .hbm, ⟨74, _⟩ => ⟨S10000x1, .f32⟩
  | .hbm, ⟨75, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Proof.Body.lean ====
/-
  The kernel's body at any floats, run once at any staging buffers: what it leaves in the two output
  buffers, as functions `hnewOf` and `outOf` of what the ten input buffers hold.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The first of a weight's two slabs. -/
def slab0 (X : Vec F S2x1x64x192 .f32) : Vec F S1x1x64x192 .f32 :=
  extractStridedSlice S1x1x64x192 ![0, 0, 0, 0] X ⟨rfl, inb_S2x1x64x192_S1x1x64x192_0_0_0_0⟩
/-- The second. -/
def slab1 (X : Vec F S2x1x64x192 .f32) : Vec F S1x1x64x192 .f32 :=
  extractStridedSlice S1x1x64x192 ![1, 0, 0, 0] X ⟨rfl, inb_S2x1x64x192_S1x1x64x192_1_0_0_0⟩

/-- The block of the new state the body stores, from what its input buffers hold. -/
def hnewOf (x : Vec F S5120x128 .f32) (h : Vec F S64x5120 .f32) (wz : Vec F S2x1x64x192 .f32) (bz : Vec F S64 .f32)
    (wr : Vec F S2x1x64x192 .f32) (br : Vec F S64 .f32) (wh : Vec F S2x1x64x192 .f32) (bh : Vec F S64 .f32) : Vec F S64x5120 .f32 :=
  k0_pay1 x (k0_pay3 h) (k0_pay5 (slab0 wr) (slab1 wr)) (k0_pay6 (slab0 wh) (slab1 wh)) (k0_pay7 bz) (k0_pay8 br) (k0_pay9 bh)
    (k0_pay10 x (slab0 wz) (slab1 wz)) (k0_pay11 (slab0 wz) (slab1 wz))

/-- The block of the output the body stores. -/
def outOf (x : Vec F S5120x128 .f32) (h : Vec F S64x5120 .f32) (wz : Vec F S2x1x64x192 .f32) (bz : Vec F S64 .f32)
    (wr : Vec F S2x1x64x192 .f32) (br : Vec F S64 .f32) (wh : Vec F S2x1x64x192 .f32) (bh : Vec F S64 .f32)
    (lw : Vec F S1x64 .f32) (lb : Vec F S1 .f32) : Vec F S1x5120 .f32 :=
  k0_pay2 x (k0_pay3 h) (k0_pay5 (slab0 wr) (slab1 wr)) (k0_pay6 (slab0 wh) (slab1 wh)) (k0_pay7 bz) (k0_pay8 br) (k0_pay9 bh)
    (k0_pay10 x (slab0 wz) (slab1 wz)) (k0_pay11 (slab0 wz) (slab1 wz)) lw lb

theorem zeros2 : (![0, 0] : Fin 2 → Nat) = fun _ => 0 := funext fun a => by fin_cases a <;> rfl
theorem zeros1 : (![0] : Fin 1 → Nat) = fun _ => 0 := funext fun a => by fin_cases a; rfl

/-- The new state's payload over the body's loads is `hnewOf` of the buffers. -/
theorem hnewOf_loads (x : Vec F S5120x128 .f32) (h : Vec F S64x5120 .f32) (wz : Vec F S2x1x64x192 .f32) (bz : Vec F S64 .f32)
    (wr : Vec F S2x1x64x192 .f32) (br : Vec F S64 .f32) (wh : Vec F S2x1x64x192 .f32) (bh : Vec F S64 .f32) :
    k0_pay1 (View.ld x (Rect.unit (s := S5120x128) ![0, 0] S5120x128.size inb_S5120x128_S5120x128_0_0))
      (k0_pay3 (View.ld h (Rect.unit (s := S64x5120) ![0, 0] S64x5120.size inb_S64x5120_S64x5120_0_0)))
      (k0_pay5 (View.ld wr (Rect.unit (s := S2x1x64x192) ![0, 0, 0, 0] S1x1x64x192.size inb_S2x1x64x192_S1x1x64x192_0_0_0_0))
        (View.ld wr (Rect.unit (s := S2x1x64x192) ![1, 0, 0, 0] S1x1x64x192.size inb_S2x1x64x192_S1x1x64x192_1_0_0_0)))
      (k0_pay6 (View.ld wh (Rect.unit (s := S2x1x64x192) ![0, 0, 0, 0] S1x1x64x192.size inb_S2x1x64x192_S1x1x64x192_0_0_0_0))
        (View.ld wh (Rect.unit (s := S2x1x64x192) ![1, 0, 0, 0] S1x1x64x192.size inb_S2x1x64x192_S1x1x64x192_1_0_0_0)))
      (k0_pay7 (View.ld bz (Rect.unit (s := S64) ![0] S64.size inb_S64_S64_0))) (k0_pay8 (View.ld br (Rect.unit (s := S64) ![0] S64.size inb_S64_S64_0)))
      (k0_pay9 (View.ld bh (Rect.unit (s := S64) ![0] S64.size inb_S64_S64_0)))
      (k0_pay10 (View.ld x (Rect.unit (s := S5120x128) ![0, 0] S5120x128.size inb_S5120x128_S5120x128_0_0))
        (View.ld wz (Rect.unit (s := S2x1x64x192) ![0, 0, 0, 0] S1x1x64x192.size inb_S2x1x64x192_S1x1x64x192_0_0_0_0))
        (View.ld wz (Rect.unit (s := S2x1x64x192) ![1, 0, 0, 0] S1x1x64x192.size inb_S2x1x64x192_S1x1x64x192_1_0_0_0)))
      (k0_pay11 (View.ld wz (Rect.unit (s := S2x1x64x192) ![0, 0, 0, 0] S1x1x64x192.size inb_S2x1x64x192_S1x1x64x192_0_0_0_0))
        (View.ld wz (Rect.unit (s := S2x1x64x192) ![1, 0, 0, 0] S1x1x64x192.size inb_S2x1x64x192_S1x1x64x192_1_0_0_0)))
      = hnewOf x h wz bz wr br wh bh := by
  rw [View.ld_unit_zero (S := S5120x128) zeros2, View.ld_unit_zero (S := S64x5120) zeros2, View.ld_unit_zero (S := S64) zeros1,
    View.ld_unit_zero (S := S64) zeros1, View.ld_unit_zero (S := S64) zeros1]
  simp only [View.ld_unit]
  rfl

/-- The output's payload over the body's loads is `outOf` of the buffers. -/
theorem outOf_loads (x : Vec F S5120x128 .f32) (h : Vec F S64x5120 .f32) (wz : Vec F S2x1x64x192 .f32) (bz : Vec F S64 .f32)
    (wr : Vec F S2x1x64x192 .f32) (br : Vec F S64 .f32) (wh : Vec F S2x1x64x192 .f32) (bh : Vec F S64 .f32)
    (lw : Vec F S1x64 .f32) (lb : Vec F S1 .f32) :
    k0_pay2 (View.ld x (Rect.unit (s := S5120x128) ![0, 0] S5120x128.size inb_S5120x128_S5120x128_0_0))
      (k0_pay3 (View.ld h (Rect.unit (s := S64x5120) ![0, 0] S64x5120.size inb_S64x5120_S64x5120_0_0)))
      (k0_pay5 (View.ld wr (Rect.unit (s := S2x1x64x192) ![0, 0, 0, 0] S1x1x64x192.size inb_S2x1x64x192_S1x1x64x192_0_0_0_0))
        (View.ld wr (Rect.unit (s := S2x1x64x192) ![1, 0, 0, 0] S1x1x64x192.size inb_S2x1x64x192_S1x1x64x192_1_0_0_0)))
      (k0_pay6 (View.ld wh (Rect.unit (s := S2x1x64x192) ![0, 0, 0, 0] S1x1x64x192.size inb_S2x1x64x192_S1x1x64x192_0_0_0_0))
        (View.ld wh (Rect.unit (s := S2x1x64x192) ![1, 0, 0, 0] S1x1x64x192.size inb_S2x1x64x192_S1x1x64x192_1_0_0_0)))
      (k0_pay7 (View.ld bz (Rect.unit (s := S64) ![0] S64.size inb_S64_S64_0))) (k0_pay8 (View.ld br (Rect.unit (s := S64) ![0] S64.size inb_S64_S64_0)))
      (k0_pay9 (View.ld bh (Rect.unit (s := S64) ![0] S64.size inb_S64_S64_0)))
      (k0_pay10 (View.ld x (Rect.unit (s := S5120x128) ![0, 0] S5120x128.size inb_S5120x128_S5120x128_0_0))
        (View.ld wz (Rect.unit (s := S2x1x64x192) ![0, 0, 0, 0] S1x1x64x192.size inb_S2x1x64x192_S1x1x64x192_0_0_0_0))
        (View.ld wz (Rect.unit (s := S2x1x64x192) ![1, 0, 0, 0] S1x1x64x192.size inb_S2x1x64x192_S1x1x64x192_1_0_0_0)))
      (k0_pay11 (View.ld wz (Rect.unit (s := S2x1x64x192) ![0, 0, 0, 0] S1x1x64x192.size inb_S2x1x64x192_S1x1x64x192_0_0_0_0))
        (View.ld wz (Rect.unit (s := S2x1x64x192) ![1, 0, 0, 0] S1x1x64x192.size inb_S2x1x64x192_S1x1x64x192_1_0_0_0)))
      (View.ld lw (Rect.unit (s := S1x64) ![0, 0] S1x64.size inb_S1x64_S1x64_0_0)) (View.ld lb (Rect.unit (s := S1) ![0] S1.size inb_S1_S1_0))
      = outOf x h wz bz wr br wh bh lw lb := by
  rw [View.ld_unit_zero (S := S5120x128) zeros2, View.ld_unit_zero (S := S64x5120) zeros2, View.ld_unit_zero (S := S64) zeros1,
    View.ld_unit_zero (S := S64) zeros1, View.ld_unit_zero (S := S64) zeros1, View.ld_unit_zero (S := S1x64) zeros2, View.ld_unit_zero (S := S1) zeros1]
  simp only [View.ld_unit]
  rfl

set_option maxHeartbeats 2000000 in
/-- The body from any input contents: the inputs stay, the two output buffers end holding `outOf` and `hnewOf`. -/
theorem body_triple (c : Dev nD) (E : Set ℕ) (i : grid0.Coords)
    (arg1 : Memref sig .tc .vmem S5120x128 .f32) (harg1 : arg1.IsWhole) (arg2 : Memref sig .tc .vmem S64x5120 .f32) (harg2 : arg2.IsWhole)
    (arg3 : Memref sig .tc .vmem S2x1x64x192 .f32) (harg3 : arg3.IsWhole) (arg4 : Memref sig .tc .vmem S64 .f32) (harg4 : arg4.IsWhole)
    (arg5 : Memref sig .tc .vmem S2x1x64x192 .f32) (harg5 : arg5.IsWhole) (arg6 : Memref sig .tc .vmem S64 .f32) (harg6 : arg6.IsWhole)
    (arg7 : Memref sig .tc .vmem S2x1x64x192 .f32) (harg7 : arg7.IsWhole) (arg8 : Memref sig .tc .vmem S64 .f32) (harg8 : arg8.IsWhole)
    (arg9 : Memref sig .tc .vmem S1x64 .f32) (harg9 : arg9.IsWhole) (arg10 : Memref sig .tc .vmem S1 .f32) (harg10 : arg10.IsWhole)
    (arg11 : Memref sig .tc .vmem S1x5120 .f32) (harg11 : arg11.IsWhole) (arg12 : Memref sig .tc .vmem S64x5120 .f32) (harg12 : arg12.IsWhole)
    (x : Vec F S5120x128 .f32) (h : Vec F S64x5120 .f32) (wz : Vec F S2x1x64x192 .f32) (bz : Vec F S64 .f32)
    (wr : Vec F S2x1x64x192 .f32) (br : Vec F S64 .f32) (wh : Vec F S2x1x64x192 .f32) (bh : Vec F S64 .f32)
    (lw : Vec F S1x64 .f32) (lb : Vec F S1 .f32) (K : PUnit → sProp 𝕄) :
    iprop(owns (c : Thread nD τ) arg1 fullShare x ∗ owns (c : Thread nD τ) arg2 fullShare h
        ∗ owns (c : Thread nD τ) arg3 fullShare wz ∗ owns (c : Thread nD τ) arg4 fullShare bz
        ∗ owns (c : Thread nD τ) arg5 fullShare wr ∗ owns (c : Thread nD τ) arg6 fullShare br
        ∗ owns (c : Thread nD τ) arg7 fullShare wh ∗ owns (c : Thread nD τ) arg8 fullShare bh
        ∗ owns (c : Thread nD τ) arg9 fullShare lw ∗ owns (c : Thread nD τ) arg10 fullShare lb
        ∗ (∃ d, owns (c : Thread nD τ) arg11 fullShare d) ∗ (∃ d, owns (c : Thread nD τ) arg12 fullShare d)
        ∗ (iprop(owns (c : Thread nD τ) arg1 fullShare x ∗ owns (c : Thread nD τ) arg2 fullShare h
            ∗ owns (c : Thread nD τ) arg3 fullShare wz ∗ owns (c : Thread nD τ) arg4 fullShare bz
            ∗ owns (c : Thread nD τ) arg5 fullShare wr ∗ owns (c : Thread nD τ) arg6 fullShare br
            ∗ owns (c : Thread nD τ) arg7 fullShare wh ∗ owns (c : Thread nD τ) arg8 fullShare bh
            ∗ owns (c : Thread nD τ) arg9 fullShare lw ∗ owns (c : Thread nD τ) arg10 fullShare lb
            ∗ owns (c : Thread nD τ) arg11 fullShare (outOf x h wz bz wr br wh bh lw lb)
            ∗ owns (c : Thread nD τ) arg12 fullShare (hnewOf x h wz bz wr br wh bh)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9
            arg10 harg10 arg11 harg11 arg12 harg12) K := by
  simp only [cc0__gru_kernel_eq_skeleton]; unfold cc0__gru_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%d11, %f11, -, H11⟩, ⟨%d12, %f12, -, H12⟩, Hk⟩
  subst e1 e2 e3 e4 e5 e6 e7 e8 e9 e10
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]
  · iexists _; isplitr
    swap; · iexact H11
    ipureintro
    rw [View.read_writes_eq_canon _ _ _ (fun y => ⟨_, List.mem_singleton_self _, View.mem_set_unit_zero zeros2 inb_S1x5120_S1x5120_0_0 y⟩),
      View.canon_unit_zero zeros2]
    simp only [View.readAt_eq_ld]
    exact outOf_loads (arg1.view.read (Elt F) f1) (arg2.view.read (Elt F) f2) (arg3.view.read (Elt F) f3) (arg4.view.read (Elt F) f4) (arg5.view.read (Elt F) f5)
      (arg6.view.read (Elt F) f6) (arg7.view.read (Elt F) f7) (arg8.view.read (Elt F) f8) (arg9.view.read (Elt F) f9) (arg10.view.read (Elt F) f10)
  · iexists _; isplitr
    swap; · iexact H12
    ipureintro
    rw [View.read_writes_eq_canon _ _ _ (fun y => ⟨_, List.mem_singleton_self _, View.mem_set_unit_zero zeros2 inb_S64x5120_S64x5120_0_0 y⟩),
      View.canon_unit_zero zeros2]
    simp only [View.readAt_eq_ld]
    exact hnewOf_loads (arg1.view.read (Elt F) f1) (arg2.view.read (Elt F) f2) (arg3.view.read (Elt F) f3) (arg4.view.read (Elt F) f4) (arg5.view.read (Elt F) f5)
      (arg6.view.read (Elt F) f6) (arg7.view.read (Elt F) f7) (arg8.view.read (Elt F) f8)

end Cert.KernelIdeal.Cell

end
-- ==== Proof.Data.lean ====
/-
  The pipeline's proof data, at any floats: what each staging buffer holds before and after the body at each
  grid point. The second point's blocks reach past the arrays' ends; there the rows and columns outside the array
  hold nothing named, and the statement uses zeros for them.
-/
module

public import proofs.«01_k».proof.Proof.Body
@[expose] public section

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x` at point `t`, zeros on the rows past the array's end. -/
def xAt (c : Dev nD) (t : Fin cfg0.N) : Vec F S5120x128 .f32 :=
  win0_0.fill (grid0.coords t) (fun _ => Scalar.ofBits .f32 0#32) (iblk m c 0 t)
/-- The block of the transposed memory at point `t`, zeros on the columns past the array's end. -/
def hAt (c : Dev nD) (t : Fin cfg0.N) : Vec F S64x5120 .f32 :=
  win0_1.fill (grid0.coords t) (fun _ => Scalar.ofBits .f32 0#32) (iblk m c 1 t)

/-- The proof data: the arrays as the launch finds them; every input's buffer keeps its block; the outputs' buffers
    end with the body's two results. -/
def dats (_ : Fin 1) (c : Dev nD) : Dat τ (Elt F) Unit ℕ (UR sig nD τ) ℕ cfg0 c where
  A w := V m c (Pipeline.arrRef spec0 w)
  after w t := match w with
    | ⟨0, _⟩ => xAt m c t
    | ⟨1, _⟩ => hAt m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outOf (xAt m c t) (hAt m c t) (iblk m c 2 t) (iblk m c 3 t) (iblk m c 4 t) (iblk m c 5 t) (iblk m c 6 t) (iblk m c 7 t) (iblk m c 8 t) (iblk m c 9 t)
    | ⟨11, _⟩ => hnewOf (xAt m c t) (hAt m c t) (iblk m c 2 t) (iblk m c 3 t) (iblk m c 4 t) (iblk m c 5 t) (iblk m c 6 t) (iblk m c 7 t)
    | ⟨_ + 12, h⟩ => absurd h (Nat.not_lt.2 (Nat.le_add_left _ _))
  Φ _ := Pipeline.ΦA spec0 c
  q _ := fullShare
  owed _ := 0

/-- No variants are used. -/
abbrev 𝒱₀ : Variants := Variants.none

/-- Before the body, the buffers of `x` and of the memory hold their blocks, anything past the arrays' ends; -/
theorem before_0 (c : Dev nD) (t : Fin cfg0.N) (d) :
    (dats m 0 c).before (0 : Fin 12) t d = win0_0.fill (grid0.coords t) d (iblk m c 0 t) := by
  unfold Dat.before; rw [if_pos (fetch0_0 t)]; rfl
theorem before_1 (c : Dev nD) (t : Fin cfg0.N) (d) :
    (dats m 0 c).before (1 : Fin 12) t d = win0_1.fill (grid0.coords t) d (iblk m c 1 t) := by
  unfold Dat.before; rw [if_pos (fetch0_1 t)]; rfl
/-- the weights', biases' and read-out's buffers hold their whole arrays. -/
theorem before_2 (c : Dev nD) (t : Fin cfg0.N) (d) : (dats m 0 c).before (2 : Fin 12) t d = iblk m c 2 t :=
  before0_2_of m (dats m 0 c) rfl (fun _ => rfl) t d
theorem before_3 (c : Dev nD) (t : Fin cfg0.N) (d) : (dats m 0 c).before (3 : Fin 12) t d = iblk m c 3 t :=
  before0_3_of m (dats m 0 c) rfl (fun _ => rfl) t d
theorem before_4 (c : Dev nD) (t : Fin cfg0.N) (d) : (dats m 0 c).before (4 : Fin 12) t d = iblk m c 4 t :=
  before0_4_of m (dats m 0 c) rfl (fun _ => rfl) t d
theorem before_5 (c : Dev nD) (t : Fin cfg0.N) (d) : (dats m 0 c).before (5 : Fin 12) t d = iblk m c 5 t :=
  before0_5_of m (dats m 0 c) rfl (fun _ => rfl) t d
theorem before_6 (c : Dev nD) (t : Fin cfg0.N) (d) : (dats m 0 c).before (6 : Fin 12) t d = iblk m c 6 t :=
  before0_6_of m (dats m 0 c) rfl (fun _ => rfl) t d
theorem before_7 (c : Dev nD) (t : Fin cfg0.N) (d) : (dats m 0 c).before (7 : Fin 12) t d = iblk m c 7 t :=
  before0_7_of m (dats m 0 c) rfl (fun _ => rfl) t d
theorem before_8 (c : Dev nD) (t : Fin cfg0.N) (d) : (dats m 0 c).before (8 : Fin 12) t d = iblk m c 8 t :=
  before0_8_of m (dats m 0 c) rfl (fun _ => rfl) t d
theorem before_9 (c : Dev nD) (t : Fin cfg0.N) (d) : (dats m 0 c).before (9 : Fin 12) t d = iblk m c 9 t :=
  before0_9_of m (dats m 0 c) rfl (fun _ => rfl) t d

/-- The kept parts of the two clipped inputs' data are the fetched blocks. -/
theorem cut_xAt (c : Dev nD) (t : Fin cfg0.N) : win0_0.cut (grid0.coords t) (xAt m c t) = iblk m c 0 t :=
  win0_0.cut_fill _ _ _
theorem cut_hAt (c : Dev nD) (t : Fin cfg0.N) : win0_1.cut (grid0.coords t) (hAt m c t) = iblk m c 1 t :=
  win0_1.cut_fill _ _ _

end Cert.KernelIdeal.Cell

end
-- ==== Proof.Frame.lean ====
/-
  At any floats, every run of the kernel leaves the twelve arguments and the semaphores as it found them. What the two
  outputs hold is not asked here, so their buffers are left unnamed.
-/
module

public import proofs.«01_k».proof.Proof.Data
public import Idealize.ShloMosaic.Lib.Pipeline.FrameSuffix
@[expose] public section

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two outputs are left unnamed. -/
def unnamed : Fin 12 → Bool := fun w => decide (10 ≤ w.val)

set_option maxHeartbeats 1000000 in
/-- The body's obligation with the outputs unnamed, from `body_triple`. -/
theorem body_unnamed (c : Dev nD) : BodyObligationLoose (dats m 0 c) (defs₀ (F := F)) 𝒱₀ () Set.univ unnamed := fun t => by
  rw [bigSep_W0, bigSep_W0]
  simp only [show unnamed (0 : Fin 12) = false from rfl, show unnamed (1 : Fin 12) = false from rfl, show unnamed (2 : Fin 12) = false from rfl, show unnamed (3 : Fin 12) = false from rfl, show unnamed (4 : Fin 12) = false from rfl, show unnamed (5 : Fin 12) = false from rfl, show unnamed (6 : Fin 12) = false from rfl, show unnamed (7 : Fin 12) = false from rfl, show unnamed (8 : Fin 12) = false from rfl, show unnamed (9 : Fin 12) = false from rfl, show unnamed (10 : Fin 12) = true from rfl, show unnamed (11 : Fin 12) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  rw [before_0 m c t d0,
    before_1 m c t d1,
    before_2 m c t d2,
    before_3 m c t d3,
    before_4 m c t d4,
    before_5 m c t d5,
    before_6 m c t d6,
    before_7 m c t d7,
    before_8 m c t d8,
    before_9 m c t d9]
  iapply (body_triple (F := F) c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xAt m c t)))
    rw [cut_xAt]; try iexact H0
  isplitl [H1]
  · iexists d1
    change _ ⊢ owns (c : Thread nD τ) (st0_1 t) fullShare (win0_1.fill (grid0.coords t) d1 (win0_1.cut (grid0.coords t) (hAt m c t)))
    rw [cut_hAt]; try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; iexact H10
  · iexists _; iexact H11

/-- The host lines after the region write only the two results. -/
theorem sfx_writes : ∀ ops ∈ ([hostOps1] : List (List (HloOp τ sig (Elt F)))), ∀ op ∈ ops, ∀ b : Ref sig .tc,
    Proc.devRef .tc b ∈ op.writes → b ∈ ({main_v5, main_v6} : Finset (Ref sig .tc)) := by
  intro ops hops op hop b hb
  simp only [List.mem_cons, List.mem_nil_iff, or_false] at hops
  subst hops
  simp only [hostOps1, List.mem_cons, List.mem_nil_iff, or_false] at hop
  rcases hop with rfl | rfl
  · exact Finset.mem_insert.mpr (.inl (Proc.devRef_injective Proc.tc (Finset.mem_singleton.mp hb)))
  · exact Finset.mem_insert.mpr (.inr (Finset.mem_singleton.mpr (Proc.devRef_injective Proc.tc (Finset.mem_singleton.mp hb))))

set_option backward.isDefEq.respectTransparency.types false in
/-- The whole run: the arguments and the semaphores end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) := by
  refine Pipeline.θ_run_frame_around_T_forget cfgs (dats m) 0 launch0 defs₀ 𝒱₀ unnamed {main_v5, main_v6} m ρ main (body_unnamed m)
    (fun c => (dats m 0 c).share_full fun _ => rfl) (fun _ _ => rfl) (V0 m) [hostOps1] sfx_sub sfx_fresh sfx_keeps sfx_writes (hmain m 𝒱₀)
    (fun _ _ => rfl) (fun _ _ => rfl) _ ?_
  rintro r ⟨h, hsem⟩
  refine ⟨fun c => ⟨?_, ?_, ?_, ?_, ?_, ?_, ?_, ?_, ?_, ?_, ?_, ?_⟩, hsem⟩
  · exact (h.arr_in c 0 rfl).trans (V_main_arg0 m c)
  · exact ((h c).2 main_arg1 (Finset.mem_sdiff.mpr ⟨Pipeline.mem_restRefs_of main_arg1 (by decide) (by decide), by decide⟩)).trans (V_main_arg1 m c)
  · exact ((h c).2 main_arg2 (Finset.mem_sdiff.mpr ⟨Pipeline.mem_restRefs_of main_arg2 (by decide) (by decide), by decide⟩)).trans (V_main_arg2 m c)
  · exact ((h c).2 main_arg3 (Finset.mem_sdiff.mpr ⟨Pipeline.mem_restRefs_of main_arg3 (by decide) (by decide), by decide⟩)).trans (V_main_arg3 m c)
  · exact ((h c).2 main_arg4 (Finset.mem_sdiff.mpr ⟨Pipeline.mem_restRefs_of main_arg4 (by decide) (by decide), by decide⟩)).trans (V_main_arg4 m c)
  · exact (h.arr_in c 3 rfl).trans (V_main_arg5 m c)
  · exact ((h c).2 main_arg6 (Finset.mem_sdiff.mpr ⟨Pipeline.mem_restRefs_of main_arg6 (by decide) (by decide), by decide⟩)).trans (V_main_arg6 m c)
  · exact (h.arr_in c 5 rfl).trans (V_main_arg7 m c)
  · exact ((h c).2 main_arg8 (Finset.mem_sdiff.mpr ⟨Pipeline.mem_restRefs_of main_arg8 (by decide) (by decide), by decide⟩)).trans (V_main_arg8 m c)
  · exact (h.arr_in c 7 rfl).trans (V_main_arg9 m c)
  · exact (h.arr_in c 8 rfl).trans (V_main_arg10 m c)
  · exact (h.arr_in c 9 rfl).trans (V_main_arg11 m c)

end Cert.KernelIdeal.Cell

end
-- ==== Proof.Same.lean ====
/-
  The kernel as printed and its idealization are one program read at two kinds of floats: at any floats their tables
  of bodies are equal, so what is proved of the one's runs at all floats is proved of the other's.
-/
module

public import proofs.«01_k».proof.Defs
public import proofs.«01_k».proof.Proof.Frame
public import proofs.«01_k».proof.Proof.Gen.Kernel

@[expose] public section

noncomputable section

namespace Cert.Same

open Idealize.ShloMosaic Idealize.SL.Sem

variable {F : FTy → Type} [FloatOps F]

/-- The kernels' bodies agree, label by label (there is one label), -/
theorem bodies_eq : Cert.Kernel.defs₀ (F := F) = Cert.KernelIdeal.defs₀ (F := F) :=
  congrArg Defs.onTc (funext fun l => match l with
    | ⟨0, _⟩ => rfl
    | ⟨_ + 1, h⟩ => absurd h (Nat.not_lt.2 (Nat.le_add_left _ _)))
/-- so their tables with the pipeline's labels. -/
theorem defs_eq : Cert.Kernel.defs (F := F) = Cert.KernelIdeal.defs (F := F) :=
  congrArg (Pipeline.defs Cert.KernelIdeal.pcfgs) bodies_eq

/-- The frame of the kernel as printed. -/
theorem frame_kernel : Cert.quiescent_Kernel (hKernel := Cert.Kernel.Gen.facts) := fun m g _ => by
  rw [defs_eq]
  exact Cert.KernelIdeal.Cell.frame (F := Bits) m g

end Cert.Same

end
-- ==== Proof.Gru.lean ====
/-
  One row of the gated recurrent unit as plain mathematics on the extended reals, in the two forms the kernel and
  the reference compute it: with the two diffusion matrices added up first, and with their products kept apart.
  The two agree when the features, the state and the weights are finite.
-/
module

public import Idealize.ShloMosaic.Lib.Pipeline.ValueKit

@[expose] public section

noncomputable section

namespace Cert.Gru

open Idealize.ShloMosaic

/-- A gate's weights: slab, input (128 features, then 64 state entries), state entry. -/
abbrev Weights := Fin 2 → Fin 192 → Fin 64 → EReal

/-- The place of a feature among a gate's inputs, -/
abbrev feat (k : Fin 128) : Fin 192 := ⟨k.val, Nat.lt_of_lt_of_le k.isLt (by decide)⟩
/-- and of a state entry. -/
abbrev stat (k : Fin 64) : Fin 192 := ⟨128 + k.val, Nat.add_lt_add_left k.isLt 128⟩

/-- A gate before its nonlinearity, the slabs added up first (the kernel's form). -/
def preSum (W : Weights) (b : Fin 64 → EReal) (x : Fin 128 → EReal) (h : Fin 64 → EReal) (j : Fin 64) : EReal :=
  (∑ k, (W 0 (feat k) j + W 1 (feat k) j) * x k + ∑ k, (W 0 (stat k) j + W 1 (stat k) j) * h k) + b j

/-- The same with each slab's product apart (the reference's form). -/
def preApart (W : Weights) (b : Fin 64 → EReal) (x : Fin 128 → EReal) (h : Fin 64 → EReal) (j : Fin 64) : EReal :=
  ((∑ k, x k * W 0 (feat k) j + ∑ k, h k * W 0 (stat k) j) + (∑ k, x k * W 1 (feat k) j + ∑ k, h k * W 1 (stat k) j)) + b j

/-- The logistic function, as both programs compute it. -/
def sigm (a : EReal) : EReal := Ideal.div 1 (1 + Ideal.exp (-a))

/-- A way of computing a gate before its nonlinearity. -/
abbrev Pre := Weights → (Fin 64 → EReal) → (Fin 128 → EReal) → (Fin 64 → EReal) → Fin 64 → EReal

/-- One row's new state, from the row's features and state. -/
def cell (pre : Pre) (Wz Wr Wh : Weights) (bz br bh : Fin 64 → EReal) (x : Fin 128 → EReal) (h : Fin 64 → EReal) (j : Fin 64) : EReal :=
  sigm (pre Wz bz x h j) * h j
    + (1 - sigm (pre Wz bz x h j)) * Ideal.tanh (pre Wh bh x (fun k => h k * sigm (pre Wr br x h k)) j)

/-- One row's output: the rectified new state, read out by `lw` and `lb`. -/
def readOut (lw : Fin 64 → EReal) (lb : EReal) (hn : Fin 64 → EReal) : EReal := (∑ k, max (hn k) 0 * lw k) + lb

end Cert.Gru

end
-- ==== Proof.BlockAt.lean ====
/-
  What the body of `KernelIdeal` stores, read at an index of its block: one row's cell of the recurrent unit.
-/
module

public import proofs.«01_k».proof.Proof.Body
public import proofs.«01_k».proof.Proof.Gru

@[expose] public section

set_option maxRecDepth 16384

noncomputable section

namespace Cert.KernelIdeal.Cell
open Cert.KernelIdeal Cert.KernelIdeal.Gen Cert.Gru
open Idealize.ShloMosaic Idealize.ShloMosaic.TcCoe Idealize.ShloMosaic.Tactic

/-- A gate's weights out of the transposed array the kernel's windows hold. -/
def wOfT (w : Vec Ideal S2x1x64x192 .f32) : Weights := fun s k j => w (ix4 s 0 j k)

set_option maxHeartbeats 2000000 in
/-- The new state's block, at an index: a row's `cell`. -/
theorem hnewOf_at (x : Vec Ideal S5120x128 .f32) (h : Vec Ideal S64x5120 .f32) (wz : Vec Ideal S2x1x64x192 .f32) (bz : Vec Ideal S64 .f32)
    (wr : Vec Ideal S2x1x64x192 .f32) (br : Vec Ideal S64 .f32) (wh : Vec Ideal S2x1x64x192 .f32) (bh : Vec Ideal S64 .f32) (i : S64x5120.Idx) :
    hnewOf x h wz bz wr br wh bh i = cell preSum (wOfT wz) (wOfT wr) (wOfT wh) (fun k => bz (ix1 k)) (fun k => br (ix1 k)) (fun k => bh (ix1 k))
      (fun k => x (ix2 (i 1) k)) (fun k => h (ix2 k (i 1))) (i 0) := by
  idx_vars i
  pointwise [hnewOf, slab0, slab1, k0_pay1, k0_pay3, k0_pay4, k0_pay5, k0_pay6, k0_pay7, k0_pay8, k0_pay9, k0_pay10, k0_pay11, cell, preSum, sigm, wOfT]
  rfl

set_option maxHeartbeats 2000000 in
/-- The output's block, at an index: the read-out of a column of the new state's block. -/
theorem outOf_at (x : Vec Ideal S5120x128 .f32) (h : Vec Ideal S64x5120 .f32) (wz : Vec Ideal S2x1x64x192 .f32) (bz : Vec Ideal S64 .f32)
    (wr : Vec Ideal S2x1x64x192 .f32) (br : Vec Ideal S64 .f32) (wh : Vec Ideal S2x1x64x192 .f32) (bh : Vec Ideal S64 .f32)
    (lw : Vec Ideal S1x64 .f32) (lb : Vec Ideal S1 .f32) (i : S1x5120.Idx) :
    outOf x h wz bz wr br wh bh lw lb i = readOut (fun k => lw (ix2 0 k)) (lb (ix1 0)) (fun k => hnewOf x h wz bz wr br wh bh (ix2 k (i 1))) := by
  have e : outOf x h wz bz wr br wh bh lw lb = addf (matmul dot_S1x64_S64x5120_S1x5120_1_0_0_1_n_n none lw
    (maximumf (hnewOf x h wz bz wr br wh bh) (broadcast S64x5120 (Scalar.ofBits .f32 0x00000000#32))) (constant S1x5120 .f32 0x00000000#32))
    (broadcastTo S1x5120 (shapeCast S1x1 lb shapeCasts_S1_S1x1) broadcasts_S1x1_S1x5120) := rfl
  rw [e]
  idx_vars i
  pointwise [readOut]
  obtain rfl : i0 = 0 := Subsingleton.elim _ _
  exact congrArg (· + lb (ix1 0)) (Finset.sum_congr rfl fun _ _ => mul_comm _ _)

end Cert.KernelIdeal.Cell

end
-- ==== Proof.Value.lean ====
/-
  The idealized kernel's two result arrays. Every column of an output block depends only on its own row of `x` and
  its own column of the memory, so the columns inside the arrays do not depend on what lies past the arrays' ends;
  the two grid points' blocks cover the arrays, which therefore end holding each row's cell and its read-out.
-/
module

public import proofs.«01_k».proof.Proof.Data
public import proofs.«01_k».proof.Proof.BlockAt
public import Idealize.ShloMosaic.Lib.Pipeline.FrameSuffix
public import Idealize.ShloMosaic.Lib.Pipeline.ValueKit

@[expose] public section

set_option maxRecDepth 16384

noncomputable section

namespace Cert.KernelIdeal.Cell

open Cert.KernelIdeal Cert.KernelIdeal.Gen Cert.Gru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The grid's two points -/

/-- The blocks' places: the point's number along the rows (or columns) of the node axis, zero elsewhere. -/
theorem places : ∀ t : Fin cfg0.N, win0_0.index t = ![t.val, 0] ∧ win0_1.index t = ![0, t.val] ∧ win0_2.index t = ![0, 0, 0, 0]
    ∧ win0_3.index t = ![0] ∧ win0_4.index t = ![0, 0, 0, 0] ∧ win0_5.index t = ![0] ∧ win0_6.index t = ![0, 0, 0, 0] ∧ win0_7.index t = ![0]
    ∧ win0_8.index t = ![0, 0] ∧ win0_9.index t = ![0] ∧ win0_10.index t = ![0, t.val] ∧ win0_11.index t = ![0, t.val] :=
  (by decide +kernel : ∀ t : Fin grid0.N, _)

/-- How many rows of a block lie inside the arrays: the same for the four windows along the node axis, -/
theorem cuts : ∀ t : Fin cfg0.N, win0_0.xsize (grid0.coords t) 0 = win0_11.xsize (grid0.coords t) 1
    ∧ win0_1.xsize (grid0.coords t) 1 = win0_11.xsize (grid0.coords t) 1 ∧ win0_10.xsize (grid0.coords t) 1 = win0_11.xsize (grid0.coords t) 1
    ∧ t.val * 5120 + win0_11.xsize (grid0.coords t) 1 ≤ 10000 :=
  (by decide +kernel : ∀ t : Fin grid0.N, _)
/-- and the other axis is never cut. -/
theorem uncut : ∀ t : Fin cfg0.N, win0_0.xsize (grid0.coords t) 1 = 128 ∧ win0_1.xsize (grid0.coords t) 0 = 64 :=
  (by decide +kernel : ∀ t : Fin grid0.N, _)

/-- The node at row `q` of point `t`'s block, inside the arrays. -/
def node (t : Fin cfg0.N) (q : Fin 5120) (hq : q.val < win0_11.xsize (grid0.coords t) 1) : Fin 10000 :=
  ⟨t.val * 5120 + q.val, Nat.lt_of_lt_of_le (Nat.add_lt_add_left hq _) (cuts t).2.2.2⟩

/-- The memory the launch transposes, at an index, -/
theorem V_v0 (c : Dev nD) (i : S64x10000.Idx) :
    (V m c main_v0 : Vec Ideal S64x10000 .f32) i = (m (c.tc.loc main_arg3) : Vec Ideal S10000x64 .f32) (ix2 (i 1) (i 0)) := by
  simp only [V, V0, hostOps0, List.flatten_cons, List.flatten_nil, List.append_nil, List.cons_append, List.nil_append]
  entry_read
  pointwise
/-- and the three gates' weights. -/
theorem V_v1 (c : Dev nD) (i : S2x1x64x192.Idx) :
    (V m c main_v1 : Vec Ideal S2x1x64x192 .f32) i = (m (c.tc.loc main_arg4) : Vec Ideal S2x1x192x64 .f32) (ix4 (i 0) 0 (i 3) (i 2)) := by
  simp only [V, V0, hostOps0, List.flatten_cons, List.flatten_nil, List.append_nil, List.cons_append, List.nil_append]
  entry_read
  pointwise
theorem V_v2 (c : Dev nD) (i : S2x1x64x192.Idx) :
    (V m c main_v2 : Vec Ideal S2x1x64x192 .f32) i = (m (c.tc.loc main_arg6) : Vec Ideal S2x1x192x64 .f32) (ix4 (i 0) 0 (i 3) (i 2)) := by
  simp only [V, V0, hostOps0, List.flatten_cons, List.flatten_nil, List.append_nil, List.cons_append, List.nil_append]
  entry_read
  pointwise
theorem V_v3 (c : Dev nD) (i : S2x1x64x192.Idx) :
    (V m c main_v3 : Vec Ideal S2x1x64x192 .f32) i = (m (c.tc.loc main_arg8) : Vec Ideal S2x1x192x64 .f32) (ix4 (i 0) 0 (i 3) (i 2)) := by
  simp only [V, V0, hostOps0, List.flatten_cons, List.flatten_nil, List.append_nil, List.cons_append, List.nil_append]
  entry_read
  pointwise

/-- A row of the features' block inside the array is the node's row of `x`, whatever fills the rest; -/
theorem x_row (c : Dev nD) (t : Fin cfg0.N) (d) (q : Fin 5120) (hq : q.val < win0_11.xsize (grid0.coords t) 1) (k : Fin 128) :
    win0_0.fill (grid0.coords t) d (iblk m c 0 t) (ix2 q k) = (m (c.tc.loc main_arg0) : Vec Ideal S10000x128 .f32) (ix2 (node t q hq) k) := by
  have hm : win0_0.moved (grid0.coords t) (ix2 q k) = true := (win0_0.moved_iff _ _).mpr fun a => by
    match a with
    | ⟨0, _⟩ => exact Nat.lt_of_lt_of_eq hq (cuts t).1.symm
    | ⟨1, _⟩ => exact Nat.lt_of_lt_of_eq k.isLt (uncut t).1.symm
  unfold Window.fill
  rw [dif_pos hm]
  blk_ext! [iblk, V, places t, node]

/-- a column of the memory's block is the node's row of the memory. -/
theorem h_col (c : Dev nD) (t : Fin cfg0.N) (d) (q : Fin 5120) (hq : q.val < win0_11.xsize (grid0.coords t) 1) (k : Fin 64) :
    win0_1.fill (grid0.coords t) d (iblk m c 1 t) (ix2 k q) = (m (c.tc.loc main_arg3) : Vec Ideal S10000x64 .f32) (ix2 (node t q hq) k) := by
  have hm : win0_1.moved (grid0.coords t) (ix2 k q) = true := (win0_1.moved_iff _ _).mpr fun a => by
    match a with
    | ⟨0, _⟩ => exact Nat.lt_of_lt_of_eq k.isLt (uncut t).2.symm
    | ⟨1, _⟩ => exact Nat.lt_of_lt_of_eq hq (cuts t).2.1.symm
  unfold Window.fill
  rw [dif_pos hm]
  refine (V_v0 m c _).trans ?_
  blk_ext! [places t, node]

/-- A gate's weights out of the argument. -/
def wOf (w : Vec Ideal S2x1x192x64 .f32) : Weights := fun s k j => w (ix4 s 0 k j)

/-- The whole-array windows hold the arguments: the weights, -/
theorem w_z (c : Dev nD) (t : Fin cfg0.N) : wOfT (iblk m c 2 t) = wOf (m (c.tc.loc main_arg4)) := by
  funext s k j
  unfold wOfT wOf
  refine (V_v1 m c _).trans ?_
  blk_ext! [places t]
theorem w_r (c : Dev nD) (t : Fin cfg0.N) : wOfT (iblk m c 4 t) = wOf (m (c.tc.loc main_arg6)) := by
  funext s k j
  unfold wOfT wOf
  refine (V_v2 m c _).trans ?_
  blk_ext! [places t]
theorem w_h (c : Dev nD) (t : Fin cfg0.N) : wOfT (iblk m c 6 t) = wOf (m (c.tc.loc main_arg8)) := by
  funext s k j
  unfold wOfT wOf
  refine (V_v3 m c _).trans ?_
  blk_ext! [places t]
/-- the biases, -/
theorem b_z (c : Dev nD) (t : Fin cfg0.N) : iblk m c 3 t = m (c.tc.loc main_arg5) := by
  blk_ext! [iblk, V, places t]
theorem b_r (c : Dev nD) (t : Fin cfg0.N) : iblk m c 5 t = m (c.tc.loc main_arg7) := by
  blk_ext! [iblk, V, places t]
theorem b_h (c : Dev nD) (t : Fin cfg0.N) : iblk m c 7 t = m (c.tc.loc main_arg9) := by
  blk_ext! [iblk, V, places t]
/-- and the read-out's row and bias. -/
theorem lw_all (c : Dev nD) (t : Fin cfg0.N) : iblk m c 8 t = m (c.tc.loc main_arg10) := by
  blk_ext! [iblk, V, places t]
theorem lb_all (c : Dev nD) (t : Fin cfg0.N) : iblk m c 9 t = m (c.tc.loc main_arg11) := by
  blk_ext! [iblk, V, places t]

/-! ## The columns of a block -/

/-- What the second result holds before its transposition: column `n` is node `n`'s next hidden state, -/
def Hall (c : Dev nD) : S64x10000.Idx → EReal := fun i =>
  cell preSum (wOf (m (c.tc.loc main_arg4))) (wOf (m (c.tc.loc main_arg6))) (wOf (m (c.tc.loc main_arg8)))
    (fun k => (m (c.tc.loc main_arg5) : Vec Ideal S64 .f32) (ix1 k)) (fun k => (m (c.tc.loc main_arg7) : Vec Ideal S64 .f32) (ix1 k))
    (fun k => (m (c.tc.loc main_arg9) : Vec Ideal S64 .f32) (ix1 k))
    (fun k => (m (c.tc.loc main_arg0) : Vec Ideal S10000x128 .f32) (ix2 (i 1) k))
    (fun k => (m (c.tc.loc main_arg3) : Vec Ideal S10000x64 .f32) (ix2 (i 1) k)) (i 0)
/-- and the first: column `n` is the node's read-out. -/
def Oall (c : Dev nD) : S1x10000.Idx → EReal := fun i =>
  readOut (fun k => (m (c.tc.loc main_arg10) : Vec Ideal S1x64 .f32) (ix2 0 k)) ((m (c.tc.loc main_arg11) : Vec Ideal S1 .f32) (ix1 0))
    (fun k => Hall m c (ix2 k (i 1)))

/-- A column of the body's hidden states inside the array is the node's, whatever fills the two blocks' rests; -/
theorem hnew_col (c : Dev nD) (t : Fin cfg0.N) (d0 d1) (q : Fin 5120) (hq : q.val < win0_11.xsize (grid0.coords t) 1) (j : Fin 64) :
    hnewOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (ix2 j q)
      = Hall m c (ix2 j (node t q hq)) := by
  rw [hnewOf_at]
  unfold Hall
  rw [w_z, w_r, w_h, b_z, b_r, b_h]
  have hx : (fun k => win0_0.fill (grid0.coords t) d0 (iblk m c 0 t) (ix2 q k)) = _ := funext fun k => x_row m c t d0 q hq k
  have hh : (fun k => win0_1.fill (grid0.coords t) d1 (iblk m c 1 t) (ix2 k q)) = _ := funext fun k => h_col m c t d1 q hq k
  exact congrArg₂ (fun a b => cell preSum _ _ _ _ _ _ a b j) hx hh
/-- so of its read-outs. -/
theorem out_col (c : Dev nD) (t : Fin cfg0.N) (d0 d1) (q : Fin 5120) (hq : q.val < win0_11.xsize (grid0.coords t) 1) (j : Fin 1) :
    outOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (iblk m c 8 t) (iblk m c 9 t) (ix2 j q)
      = Oall m c (ix2 j (node t q hq)) := by
  rw [outOf_at]
  unfold Oall
  rw [lw_all, lb_all]
  exact congrArg (readOut _ _) (funext fun k => hnew_col m c t d0 d1 q hq k)

end Cert.KernelIdeal.Cell

end
-- ==== Proof.Run.lean ====
/-
  The idealized kernel's run: both results, every argument and every semaphore, from one run.
-/
module

public import proofs.«01_k».proof.Proof.Value

@[expose] public section

set_option maxRecDepth 16384

noncomputable section

namespace Cert.KernelIdeal.Cell

open Cert.KernelIdeal Cert.KernelIdeal.Gen Cert.Gru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## The kept parts of the outputs -/

/-- The kept part of the hidden states' block is the nodes', whatever fills the inputs' rests; -/
theorem hnew_kept (c : Dev nD) (t : Fin cfg0.N) (d0 d1) (y : (win0_11.xblock (grid0.coords t)).Idx) :
    hnewOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (win0_11.xinj (grid0.coords t) y)
      = Hall m c ((win0_11.blk t).view.emb y) := by
  have hx : win0_11.xinj (grid0.coords t) y = ix2 (win0_11.xinj (grid0.coords t) y 0) (win0_11.xinj (grid0.coords t) y 1) :=
    funext fun a => by match a with | ⟨0, _⟩ => rfl | ⟨1, _⟩ => rfl
  rw [hx]
  refine (hnew_col m c t d0 d1 (win0_11.xinj (grid0.coords t) y 1) (y 1).isLt _).trans (congrArg (Hall m c) ?_)
  blk_ext! [places t, node]
/-- and of the read-outs' block. -/
theorem out_kept (c : Dev nD) (t : Fin cfg0.N) (d0 d1) (y : (win0_10.xblock (grid0.coords t)).Idx) :
    outOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (iblk m c 8 t) (iblk m c 9 t)
      (win0_10.xinj (grid0.coords t) y)
      = Oall m c ((win0_10.blk t).view.emb y) := by
  have hx : win0_10.xinj (grid0.coords t) y = ix2 (win0_10.xinj (grid0.coords t) y 0) (win0_10.xinj (grid0.coords t) y 1) :=
    funext fun a => by match a with | ⟨0, _⟩ => rfl | ⟨1, _⟩ => rfl
  rw [hx]
  refine (out_col m c t d0 d1 (win0_10.xinj (grid0.coords t) y 1) (Nat.lt_of_lt_of_eq (y 1).isLt (cuts t).2.2.1) _).trans (congrArg (Oall m c) ?_)
  blk_ext! [places t, node]

/-- So the kept parts do not depend on what fills the inputs' rests. -/
theorem hnew_cut (c : Dev nD) (t : Fin cfg0.N) (d0 d1) :
    win0_11.cut (grid0.coords t) (hnewOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t))
      = win0_11.cut (grid0.coords t) ((dats m 0 c).after (11 : Fin 12) t) :=
  funext fun y => (hnew_kept m c t d0 d1 y).trans (hnew_kept m c t _ _ y).symm
theorem out_cut (c : Dev nD) (t : Fin cfg0.N) (d0 d1) :
    win0_10.cut (grid0.coords t) (outOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (iblk m c 8 t) (iblk m c 9 t))
      = win0_10.cut (grid0.coords t) ((dats m 0 c).after (10 : Fin 12) t) :=
  funext fun y => (out_kept m c t d0 d1 y).trans (out_kept m c t _ _ y).symm

/-! ## The body's obligation -/

set_option maxHeartbeats 1000000 in
/-- The body's obligation from `body_triple`. -/
theorem body_obligation (c : Dev nD) : BodyObligationLoose (dats m 0 c) (defs₀ (F := Ideal)) 𝒱₀ () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0,
    before_1 m c t d1,
    before_2 m c t d2,
    before_3 m c t d3,
    before_4 m c t d4,
    before_5 m c t d5,
    before_6 m c t d6,
    before_7 m c t d7,
    before_8 m c t d8,
    before_9 m c t d9]
  iapply (body_triple (F := Ideal) c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xAt m c t)))
    rw [cut_xAt]; try iexact H0
  isplitl [H1]
  · iexists d1
    change _ ⊢ owns (c : Thread nD τ) (st0_1 t) fullShare (win0_1.fill (grid0.coords t) d1 (win0_1.cut (grid0.coords t) (hAt m c t)))
    rw [cut_hAt]; try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists outOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (iblk m c 8 t) (iblk m c 9 t)
    change _ ⊢ owns (c : Thread nD τ) (st0_10 t) fullShare (win0_10.fill (grid0.coords t) (outOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t) (iblk m c 8 t) (iblk m c 9 t))
      (win0_10.cut (grid0.coords t) ((dats m 0 c).after (10 : Fin 12) t)))
    rw [win0_10.fill_congr_cut (grid0.coords t) (out_cut m c t d0 d1)]; try iexact H10
  · iexists hnewOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t)
    change _ ⊢ owns (c : Thread nD τ) (st0_11 t) fullShare (win0_11.fill (grid0.coords t) (hnewOf (F := Ideal) (win0_0.fill (grid0.coords t) d0 (iblk m c 0 t)) (win0_1.fill (grid0.coords t) d1 (iblk m c 1 t))
      (iblk m c 2 t) (iblk m c 3 t) (iblk m c 4 t) (iblk m c 5 t) (iblk m c 6 t) (iblk m c 7 t))
      (win0_11.cut (grid0.coords t) ((dats m 0 c).after (11 : Fin 12) t)))
    rw [win0_11.fill_congr_cut (grid0.coords t) (hnew_cut m c t d0 d1)]; try iexact H11

/-! ## The arrays after the region -/

theorem arr_h (c : Dev nD) : (dats m 0 c).arrAt (11 : Fin 12) cfg0.N = Hall m c :=
  (dats m 0 c).arrAt_eq_of_covers (11 : Fin 12) (Hall m c) (by decide +kernel) fun t _ y => hnew_kept m c t _ _ y
theorem arr_o (c : Dev nD) : (dats m 0 c).arrAt (10 : Fin 12) cfg0.N = Oall m c :=
  (dats m 0 c).arrAt_eq_of_covers (10 : Fin 12) (Oall m c) (by decide +kernel) fun t _ y => out_kept m c t _ _ y

/-- The results are the arrays transposed. -/
theorem tail_o (c : Dev nD) : Pipeline.afterTail₀ cfgs (dats m) 0 (V0 m) [hostOps1] c main_v5 = fun i : S10000x1.Idx => Oall m c (ix2 0 (i 0)) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v4_0) = Oall m c :=
    (Pipeline.withArrays_arr spec0 launch0.win.arr_inj c (V0 m c) _ 10).trans (arr_o m c)
  rw [e]
  funext i
  pointwise
theorem tail_h (c : Dev nD) : Pipeline.afterTail₀ cfgs (dats m) 0 (V0 m) [hostOps1] c main_v6 = fun i : S10000x64.Idx => Hall m c (ix2 (i 1) (i 0)) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v4_1) = Hall m c :=
    (Pipeline.withArrays_arr spec0 launch0.win.arr_inj c (V0 m c) _ 11).trans (arr_h m c)
  rw [e]
  funext i
  pointwise

set_option backward.isDefEq.respectTransparency.types false in
/-- The whole run: the two results, the arguments and the semaphores as they began. -/
theorem run : θ_run defs (onTc (τ := τ) (main (F := Ideal))) ⟨m, fun _ => 0, ρ⟩ (fun r => (∀ c : Dev nD,
      (r.2.mem ((c.tc : Thread nD τ).loc main_v5) = fun i : S10000x1.Idx => Oall m c (ix2 0 (i 0)))
      ∧ (r.2.mem ((c.tc : Thread nD τ).loc main_v6) = fun i : S10000x64.Idx => Hall m c (ix2 (i 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) := by
  refine Pipeline.θ_run_frame_around cfgs (dats m) 0 launch0 defs₀ 𝒱₀ m ρ main (body_obligation m)
    (fun c => (dats m 0 c).share_full fun _ => rfl) (fun _ _ => rfl) (V0 m) [hostOps1] sfx_sub sfx_fresh sfx_keeps (hmain m 𝒱₀)
    (fun _ _ => rfl) (fun _ _ => rfl) _ ?_
  rintro r ⟨h, hsem⟩
  refine ⟨fun c => ⟨?_, ?_, ?_, ?_, ?_, ?_, ?_, ?_, ?_, ?_, ?_, ?_, ?_, ?_⟩, hsem⟩
  · exact ((h c).2 main_v5 (Pipeline.mem_restRefs_of main_v5 (by decide) (by decide))).trans (tail_o m c)
  · exact ((h c).2 main_v6 (Pipeline.mem_restRefs_of main_v6 (by decide) (by decide))).trans (tail_h m c)
  · exact ((h c).1 0).trans (((dats m 0 c).arrAt_in 0 rfl _).trans (V_main_arg0 m c))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).1 3).trans (((dats m 0 c).arrAt_in 3 rfl _).trans (V_main_arg5 m c))
  · exact ((h c).2 main_arg6 (Pipeline.mem_restRefs_of main_arg6 (by decide) (by decide))).trans (W_main_arg6 m (dats m) c)
  · exact ((h c).1 5).trans (((dats m 0 c).arrAt_in 5 rfl _).trans (V_main_arg7 m c))
  · exact ((h c).2 main_arg8 (Pipeline.mem_restRefs_of main_arg8 (by decide) (by decide))).trans (W_main_arg8 m (dats m) c)
  · exact ((h c).1 7).trans (((dats m 0 c).arrAt_in 7 rfl _).trans (V_main_arg9 m c))
  · exact ((h c).1 8).trans (((dats m 0 c).arrAt_in 8 rfl _).trans (V_main_arg10 m c))
  · exact ((h c).1 9).trans (((dats m 0 c).arrAt_in 9 rfl _).trans (V_main_arg11 m c))

end Cert.KernelIdeal.Cell

end
-- ==== Proof.RefAt.lean ====
/-
  The reference's two results read at an index: one row's cell of the recurrent unit and its read-out.
-/
module

public import proofs.«01_k».proof.Proof.Gen.ReferenceIdeal.Run
public import proofs.«01_k».proof.Proof.Gru

@[expose] public section

set_option maxRecDepth 16384

noncomputable section

namespace Cert.ReferenceIdeal.Cell
open Cert.ReferenceIdeal Cert.ReferenceIdeal.Gen Cert.ReferenceIdeal.Value Cert.Gru
open Idealize.ShloMosaic Idealize.ShloMosaic.TcCoe Idealize.ShloMosaic.Tactic
/-- A gate's weights out of the reference's array. -/
def wOf (w : Vec Ideal S2x1x192x64 .f32) : Weights := fun s k j => w (ix4 s 0 k j)

set_option maxHeartbeats 2000000 in
/-- The reference's new state, at an index. -/
theorem ref_at (m : (ℓ : Loc nD τ sig) → Buf (Elt Ideal) ℓ) (c : Dev nD) (i : S10000x64.Idx) :
   res_main_v50 m c i = cell preApart (wOf (m (c.tc.loc main_arg4))) (wOf (m (c.tc.loc main_arg6))) (wOf (m (c.tc.loc main_arg8)))
     (fun k => (m (c.tc.loc main_arg5) : Vec Ideal S64 .f32) (ix1 k)) (fun k => (m (c.tc.loc main_arg7) : Vec Ideal S64 .f32) (ix1 k)) (fun k => (m (c.tc.loc main_arg9) : Vec Ideal S64 .f32) (ix1 k))
      (fun k => (m (c.tc.loc main_arg0) : Vec Ideal S10000x128 .f32) (ix2 (i 0) k)) (fun k => (m (c.tc.loc main_arg3) : Vec Ideal S10000x64 .f32) (ix2 (i 0) k)) (i 1) := by
  idx_vars i
  pointwise [res_main_v50, cell, preApart, sigm, wOf]

set_option maxHeartbeats 2000000 in
/-- The reference's output, at an index. -/
theorem refOut_at (m : (ℓ : Loc nD τ sig) → Buf (Elt Ideal) ℓ) (c : Dev nD) (i : S10000x1.Idx) :
   res_out0 m c i = readOut (fun k => (m (c.tc.loc main_arg10) : Vec Ideal S1x64 .f32) (ix2 0 k)) ((m (c.tc.loc main_arg11) : Vec Ideal S1 .f32) (ix1 0)) (fun k => (res_main_v50 m c : Vec Ideal S10000x64 .f32) (ix2 (i 0) k)) := by
  idx_vars i
  pointwise [readOut, res_out0, res_main_v56, res_main_v50]

end Cert.ReferenceIdeal.Cell

end
-- ==== Proof.Agree.lean ====
/-
  The two forms of a row's cell agree when the features, the state and the weights are finite: a product distributes
  over the sum of the two slabs there, and the reset state is finite because the logistic function lies in [0, 1].
-/
module

public import proofs.«01_k».proof.Proof.Gru

@[expose] public section

noncomputable section

namespace Cert.Gru

open Idealize.ShloMosaic

/-- A finite value. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- A finite factor distributes over the two slabs' sum. -/
theorem slabs {a b x : EReal} (ha : IsReal a) (hb : IsReal b) (hx : IsReal x) : (a + b) * x = x * a + x * b := by
  obtain ⟨r, rfl⟩ := ha; obtain ⟨s, rfl⟩ := hb; obtain ⟨y, rfl⟩ := hx
  rw [← EReal.coe_add, ← EReal.coe_mul, ← EReal.coe_mul, ← EReal.coe_mul, ← EReal.coe_add]
  exact congrArg _ (by ring)

/-- So over a sum of such products. -/
theorem slabs_sum {n : ℕ} {a b x : Fin n → EReal} (ha : ∀ k, IsReal (a k)) (hb : ∀ k, IsReal (b k)) (hx : ∀ k, IsReal (x k)) :
    ∑ k, (a k + b k) * x k = ∑ k, x k * a k + ∑ k, x k * b k := by
  rw [← Finset.sum_add_distrib]
  exact Finset.sum_congr rfl fun k _ => slabs (ha k) (hb k) (hx k)

/-- The two forms of a gate agree on finite weights, features and state. -/
theorem pre_eq {W : Weights} {x : Fin 128 → EReal} {h : Fin 64 → EReal} (b : Fin 64 → EReal) (hW : ∀ s k j, IsReal (W s k j))
    (hx : ∀ k, IsReal (x k)) (hh : ∀ k, IsReal (h k)) (j : Fin 64) : preSum W b x h j = preApart W b x h j := by
  unfold preSum preApart
  rw [slabs_sum (fun k => hW 0 (feat k) j) (fun k => hW 1 (feat k) j) hx,
    slabs_sum (fun k => hW 0 (stat k) j) (fun k => hW 1 (stat k) j) hh, add_add_add_comm]

/-- The logistic function is finite everywhere. -/
theorem sigm_real (a : EReal) : IsReal (sigm a) := by
  unfold sigm
  induction a with
  | bot => exact ⟨0, by rw [EReal.neg_bot, Ideal.exp_top, EReal.add_top_of_ne_bot (by decide)]; simp [Ideal.div]⟩
  | top => exact ⟨1, by rw [EReal.neg_top, Ideal.exp_bot, add_zero]; simp [Ideal.div]⟩
  | coe r =>
    have hp : 1 + Real.exp (-r) ≠ 0 := (add_pos one_pos (Real.exp_pos _)).ne'
    refine ⟨1 / (1 + Real.exp (-r)), ?_⟩
    rw [← EReal.coe_neg, Ideal.exp_coe, ← EReal.coe_one, ← EReal.coe_add, Ideal.div_coe hp, EReal.coe_one, one_mul]

/-- The two forms of a row's cell agree on finite features, state and weights. -/
theorem cell_eq {Wz Wr Wh : Weights} (bz br bh : Fin 64 → EReal) {x : Fin 128 → EReal} {h : Fin 64 → EReal}
    (hz : ∀ s k j, IsReal (Wz s k j)) (hr : ∀ s k j, IsReal (Wr s k j)) (hw : ∀ s k j, IsReal (Wh s k j))
    (hx : ∀ k, IsReal (x k)) (hh : ∀ k, IsReal (h k)) (j : Fin 64) :
    cell preSum Wz Wr Wh bz br bh x h j = cell preApart Wz Wr Wh bz br bh x h j := by
  unfold cell
  have er : (fun k => h k * sigm (preSum Wr br x h k)) = fun k => h k * sigm (preApart Wr br x h k) :=
    funext fun k => by rw [pre_eq br hr hx hh k]
  rw [pre_eq bz hz hx hh j, er, pre_eq bh hw hx (fun k => (hh k).mul (sigm_real _)) j]

end Cert.Gru

end
-- ==== Proof.Finite.lean ====
/-
  What the precondition says: every entry of the features, the memory and the three gates' weights is finite.
-/
module

public import proofs.«01_k».proof.Proof.Agree
public import proofs.«01_k».proof.Pre_finite_inputs
public import Idealize.ShloMosaic.Lib.ReduceAll

@[expose] public section

noncomputable section

namespace Cert.Pre_finite_inputs

open Idealize.ShloMosaic
open Cert.Gru

/-- A value whose absolute value is below the infinity is finite. -/
theorem real_of_olt (x : EReal) (e : Ideal.cmp .olt (max x (-x)) (Ideal.ofBits .f32 0x7F800000#32) = 1#1) : IsReal x := by
  have htop : Ideal.ofBits .f32 0x7F800000#32 = ⊤ := by simp [Ideal.ofBits, Ideal.ieee]
  rw [htop] at e
  induction x with
  | bot => simp [Ideal.cmp] at e
  | top => simp [Ideal.cmp] at e
  | coe r => exact ⟨r, rfl⟩

instance : Subsingleton S_.Idx := ⟨fun _ _ => funext fun a => a.elim0⟩

/-- One array's test: all its entries are finite. -/
theorem real_of_all {s : Shape} {axes : List (Fin s.rank)} (a : FVec Ideal s .f32) (hb : S_.BroadcastsInDim s (![] : Fin 0 → Fin s.rank))
    (hr : s.ReducesTo axes S_) (hu : 0 < S_.numel) (init : IVec S_ 1) (j : S_.Idx)
    (e : Host.reduce IntOp.andi (cmpf .olt (Host.absf a) (broadcastInDim s ![] hb (constant S_ .f32 0x7F800000#32))) init hr hu j = 1#1)
    (i : s.Idx) : IsReal (a i) :=
  real_of_olt (a i) (Host.reduce_andi_all _ init hr hu j e i)

/-- The precondition read back. -/
theorem reals [Facts] (x : FVec Ideal S10000x128 .f32) (ei : IVec S2x320000 32) (ew : FVec Ideal S320000 .f32) (h : FVec Ideal S10000x64 .f32)
    (wz : FVec Ideal S2x1x192x64 .f32) (bz : FVec Ideal S64 .f32) (wr : FVec Ideal S2x1x192x64 .f32) (br : FVec Ideal S64 .f32)
    (wh : FVec Ideal S2x1x192x64 .f32) (bh : FVec Ideal S64 .f32) (lw : FVec Ideal S1x64 .f32) (lb : FVec Ideal S1 .f32)
    (e : fn (F := Ideal) x ei ew h wz bz wr br wh bh lw lb = fun _ => 1#1) :
    (∀ i, IsReal (x i)) ∧ (∀ i, IsReal (h i)) ∧ (∀ i, IsReal (wz i)) ∧ (∀ i, IsReal (wr i)) ∧ ∀ i, IsReal (wh i) := by
  have e0 := congrFun e (fun a => a.elim0)
  unfold fn fn_part1 at e0
  obtain ⟨e1, h8⟩ := IntOp.andi_eq_one.mp e0
  obtain ⟨e2, h6⟩ := IntOp.andi_eq_one.mp e1
  obtain ⟨e3, h4⟩ := IntOp.andi_eq_one.mp e2
  obtain ⟨h0, h3⟩ := IntOp.andi_eq_one.mp e3
  exact ⟨real_of_all x _ _ _ _ _ h0, real_of_all h _ _ _ _ _ h3, real_of_all wz _ _ _ _ _ h4, real_of_all wr _ _ _ _ _ h6, real_of_all wh _ _ _ _ _ h8⟩

end Cert.Pre_finite_inputs

end
-- ==== Proof.Equal.lean ====
/-
  The kernel's two results are the reference's, on memories that agree on the arguments and hold finite features,
  state and weights.
-/
module

public import proofs.«01_k».proof.Defs
public import proofs.«01_k».proof.Proof.Run
public import proofs.«01_k».proof.Proof.RefAt
public import proofs.«01_k».proof.Proof.Finite
public import proofs.«01_k».proof.Proof.Gen.ReferenceIdeal.Run
public import Idealize.ShloMosaic.Lib.Quiescent

@[expose] public section

noncomputable section

namespace Cert.Equal

open Idealize.ShloMosaic Idealize.ShloMosaic.TcCoe Idealize.SL.Sem Cert.Gru

/-- The reference has no semaphore, so every counter is zero. -/
theorem ref_quiet (s : MemSt Cert.ReferenceIdeal.nD Cert.ReferenceIdeal.τ Cert.ReferenceIdeal.sig (Elt Ideal)) : s.sem = fun _ => 0 :=
  sem_eq_zero_of_no_sems (by decide) s

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on a device. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The hidden states agree, -/
theorem hidden [Cert.Pre_finite_inputs.Facts] (c : Dev Cert.KernelIdeal.nD) (hs : Same m m' c) (hp : Cert.Pre_KernelIdeal_finite_inputs m)
    (i : Cert.KernelIdeal.S10000x64.Idx) :
    Cert.KernelIdeal.Cell.Hall m c (ix2 (i 1) (i 0)) = Cert.ReferenceIdeal.Value.res_main_v50 (F := Ideal) m' c i := by
  obtain ⟨h0, -, -, h3, h4, h5, h6, h7, h8, h9, -, -⟩ := hs
  obtain ⟨rx, rh, rz, rr, rw'⟩ := Cert.Pre_finite_inputs.reals _ _ _ _ _ _ _ _ _ _ _ _ (hp c)
  refine Eq.trans ?_ (Cert.ReferenceIdeal.Cell.ref_at m' c i).symm
  rw [h0, h3, h4, h5, h6, h7, h8, h9]
  exact cell_eq _ _ _ (fun s k j => rz (ix4 s 0 k j)) (fun s k j => rr (ix4 s 0 k j)) (fun s k j => rw' (ix4 s 0 k j))
    (fun k => rx (ix2 (i 0) k)) (fun k => rh (ix2 (i 0) k)) (i 1)

/-- and so do the read-outs. -/
theorem output [Cert.Pre_finite_inputs.Facts] (c : Dev Cert.KernelIdeal.nD) (hs : Same m m' c) (hp : Cert.Pre_KernelIdeal_finite_inputs m)
    (i : Cert.KernelIdeal.S10000x1.Idx) :
    Cert.KernelIdeal.Cell.Oall m c (ix2 0 (i 0)) = Cert.ReferenceIdeal.Value.res_main_v56 (F := Ideal) m' c i := by
  refine Eq.trans ?_ (Cert.ReferenceIdeal.Cell.refOut_at m' c i).symm
  have e := fun k : Fin 64 => hidden m m' c hs hp (ix2 (i 0) k)
  obtain ⟨-, -, -, -, -, -, -, -, -, -, h10, h11⟩ := hs
  rw [h10, h11]
  exact congrArg (readOut _ _) (funext e)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The idealized kernel's frame, out of its run. -/
theorem frame_ideal : Cert.quiescent_KernelIdeal (hKernelIdeal := Cert.KernelIdeal.Gen.facts) := fun m g _ =>
  (θ_run Cert.KernelIdeal.defs _ _).mono (fun _ h => ⟨fun c => (h.1 c).2.2, h.2⟩) (Cert.KernelIdeal.Cell.run m g)

/-- The reference's frame; it has no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2, Cert.Equal.ref_quiet r.2⟩) (Cert.ReferenceIdeal.Value.run (F := Ideal) m g)

/-- The five claims: the three frames, the idealization, and the equality of both results over the extended reals. -/
theorem claim : Cert.Claim := ⟨Cert.Kernel.Gen.facts, Cert.KernelIdeal.Gen.facts, Cert.ReferenceIdeal.Gen.facts, Cert.Pre_finite_inputs.Gen.facts,
  Cert.Same.frame_kernel, frame_ideal, fun m g _ => frame_ideal m g trivial,
  frame_ref, fun m g _ => frame_ref m g trivial, trivial,
  fun m g m' g' hp hs => ⟨fun c => Cert.ReferenceIdeal.Value.res_main_v56 (F := Ideal) m' c, fun c => Cert.ReferenceIdeal.Value.res_main_v50 (F := Ideal) m' c,
    (θ_run Cert.KernelIdeal.defs _ _).mono (fun _ h c => ⟨(h.1 c).1.trans (funext fun i => Cert.Equal.output m m' c (hs c) hp i),
      (h.1 c).2.1.trans (funext fun i => Cert.Equal.hidden m m' c (hs c) hp i), (h.1 c).2.2⟩) (Cert.KernelIdeal.Cell.run m g),
    Cert.ReferenceIdeal.Value.run (F := Ideal) m' g'⟩⟩

end Cert.Proof

end
